-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_classes_in_range [hPre_classes_in_range : Cert.Pre_classes_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_classes_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_classes_in_range [hPre_classes_in_range : Cert.Pre_classes_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_classes_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_classes_in_range [hKernelIdeal : Cert.KernelIdeal.Facts] [hPre_classes_in_range : Cert.Pre_classes_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_classes_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_classes_in_range [hReferenceIdeal : Cert.ReferenceIdeal.Facts] [hPre_classes_in_range : Cert.Pre_classes_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_classes_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_classes_in_range [hKernelIdeal : Cert.KernelIdeal.Facts] [hReferenceIdeal : Cert.ReferenceIdeal.Facts] [hPre_classes_in_range : Cert.Pre_classes_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_classes_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_classes_in_range : Cert.Pre_classes_in_range.Facts),
    quiescent_Kernel (hKernel := hKernel)
    ∧ quiescent_KernelIdeal (hKernelIdeal := hKernelIdeal)
    ∧ quiescent_KernelIdeal_pre_classes_in_range (hKernelIdeal := hKernelIdeal) (hPre_classes_in_range := hPre_classes_in_range)
    ∧ quiescent_ReferenceIdeal (hReferenceIdeal := hReferenceIdeal)
    ∧ quiescent_ReferenceIdeal_pre_classes_in_range (hReferenceIdeal := hReferenceIdeal) (hPre_classes_in_range := hPre_classes_in_range)
    ∧ preserves_Kernel_KernelIdeal
    ∧ algebraic_KernelIdeal_ReferenceIdeal_pre_classes_in_range (hKernelIdeal := hKernelIdeal) (hReferenceIdeal := hReferenceIdeal) (hPre_classes_in_range := hPre_classes_in_range)
-- ==== Pre_classes_in_range.lean ====
abbrev S129x128x8 : Shape := ⟨3, ![129, 128, 8]⟩
abbrev S129x128x9x256 : Shape := ⟨4, ![129, 128, 9, 256]⟩
abbrev S129 : Shape := ⟨1, ![129]⟩
abbrev S129x128 : Shape := ⟨2, ![129, 128]⟩
abbrev S_ : Shape := ⟨0, ![]⟩
abbrev S129x128x9 : Shape := ⟨3, ![129, 128, 9]⟩

class Facts : Prop where
  reducesTo_S129x128x9x256_S129x128x9_d3 : S129x128x9x256.ReducesTo [3] S129x128x9
  h_S_ : 0 < S_.numel
  bcast_S_S129x128x8 : S_.BroadcastsInDim S129x128x8 (![] : Fin 0 → Fin S129x128x8.rank)
  reducesTo_S129x128x8_S_d0_1_2 : S129x128x8.ReducesTo [0, 1, 2] S_
  bcast_S_S129x128x9 : S_.BroadcastsInDim S129x128x9 (![] : Fin 0 → Fin S129x128x9.rank)
  reducesTo_S129x128x9_S_d0_1_2 : S129x128x9.ReducesTo [0, 1, 2] S_

variable [Facts]

def fn {F : FTy → Type} [FloatOps F] (main_arg0 : IVec S129x128x8 32) (main_arg1 : FVec F S129x128x9x256 .f32) (main_arg2 : IVec S129 32) (main_arg3 : IVec S129x128 32) (main_arg4 : IVec S_ 32) (main_arg5 : IVec S_ 32) : IVec S_ 1 :=
  let main_cst : FVec F S_ .f32 := constant S_ .f32 0xFF800000#32
  let main_v0 : FVec F S129x128x9 .f32 := (fun x v => Host.reduce FloatOps.maximumf x v reducesTo_S129x128x9x256_S129x128x9_d3 h_S_) main_arg1 main_cst
  let main_c : IVec S_ 32 := constantI S_ 32 0#32
  let main_v1 : IVec S129x128x8 32 := broadcastInDim S129x128x8 ![] bcast_S_S129x128x8 main_c
  let main_v2 : IVec S129x128x8 1 := cmpi .sge main_arg0 main_v1
  let main_c_0 : IVec S_ 32 := constantI S_ 32 256#32
  let main_v3 : IVec S129x128x8 32 := broadcastInDim S129x128x8 ![] bcast_S_S129x128x8 main_c_0
  let main_v4 : IVec S129x128x8 1 := cmpi .slt main_arg0 main_v3
  let main_v5 : IVec S129x128x8 1 := andi main_v2 main_v4
  let main_c_1 : IVec S_ 1 := constantI S_ 1 1#1
  let main_v6 : IVec S_ 1 := (fun x v => Host.reduce IntOp.andi x v reducesTo_S129x128x8_S_d0_1_2 h_S_) main_v5 main_c_1
  let main_c_2 : IVec S_ 32 := constantI S_ 32 0#32
  let main_v7 : IVec S_ 1 := cmpi .sge main_arg5 main_c_2
  let main_v8 : IVec S_ 1 := andi main_v6 main_v7
  let main_c_3 : IVec S_ 32 := constantI S_ 32 256#32
  let main_v9 : IVec S_ 1 := cmpi .slt main_arg5 main_c_3
  let main_v10 : IVec S_ 1 := andi main_v8 main_v9
  let main_v11 : FVec F S129x128x9 .f32 := Host.absf main_v0
  let main_cst_4 : FVec F S_ .f32 := constant S_ .f32 0x7F800000#32
  let main_v12 : FVec F S129x128x9 .f32 := broadcastInDim S129x128x9 ![] bcast_S_S129x128x9 main_cst_4
  let main_v13 : IVec S129x128x9 1 := cmpf .olt main_v11 main_v12
  let main_c_5 : IVec S_ 1 := constantI S_ 1 1#1
  let main_v14 : IVec S_ 1 := (fun x v => Host.reduce IntOp.andi x v reducesTo_S129x128x9_S_d0_1_2 h_S_) main_v13 main_c_5
  let main_v15 : IVec S_ 1 := andi main_v10 main_v14
  main_v15
-- ==== Kernel.lean ====
abbrev S129x128x8 : Shape := ⟨3, ![129, 128, 8]⟩
abbrev S129x128x9x256 : Shape := ⟨4, ![129, 128, 9, 256]⟩
abbrev S129 : Shape := ⟨1, ![129]⟩
abbrev S129x128 : Shape := ⟨2, ![129, 128]⟩
abbrev S_ : Shape := ⟨0, ![]⟩
abbrev S129x128x1 : Shape := ⟨3, ![129, 128, 1]⟩
abbrev S129x128x9 : Shape := ⟨3, ![129, 128, 9]⟩
abbrev S129x9x128 : Shape := ⟨3, ![129, 9, 128]⟩
abbrev S129x9x1x128 : Shape := ⟨4, ![129, 9, 1, 128]⟩
abbrev S129x1x128 : Shape := ⟨3, ![129, 1, 128]⟩
abbrev S1 : Shape := ⟨1, ![1]⟩
abbrev S1x1 : Shape := ⟨2, ![1, 1]⟩
abbrev S1x128x9x256 : Shape := ⟨4, ![1, 128, 9, 256]⟩
abbrev S1x9x1x128 : Shape := ⟨4, ![1, 9, 1, 128]⟩
abbrev S1x1x128 : Shape := ⟨3, ![1, 1, 128]⟩
abbrev S1x128 : Shape := ⟨2, ![1, 128]⟩
abbrev S128 : Shape := ⟨1, ![128]⟩
abbrev S128x256 : Shape := ⟨2, ![128, 256]⟩
abbrev S1x128x1x256 : Shape := ⟨4, ![1, 128, 1, 256]⟩
abbrev S1x1x1x128 : Shape := ⟨4, ![1, 1, 1, 128]⟩
abbrev S128x1 : Shape := ⟨2, ![128, 1]⟩

abbrev nBuf : Space → Nat
  | .hbm => 14
  | .vmem => 6
  | .smem => 5
  | _ => 0

abbrev bufTy : (tb : Table) → Fin (tcTables nBuf tb) → BufTy
  | .hbm, ⟨0, _⟩ => ⟨S129x128x8, .i32⟩
  | .hbm, ⟨1, _⟩ => ⟨S129x128x9x256, .f32⟩
  | .hbm, ⟨2, _⟩ => ⟨S129, .i32⟩
  | .hbm, ⟨3, _⟩ => ⟨S129x128, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S129x128x1, .i32⟩
  | .hbm, ⟨8, _⟩ => ⟨S129x128x9, .i32⟩
  | .hbm, ⟨9, _⟩ => ⟨S129x9x128, .i32⟩
  | .hbm, ⟨10, _⟩ => ⟨S129x9x1x128, .i32⟩
  | .hbm, ⟨11, _⟩ => ⟨S129x1x128, .i32⟩
  | .hbm, ⟨12, _⟩ => ⟨S1, .i32⟩
  | .hbm, ⟨13, _⟩ => ⟨S1x1, .f32⟩
  | .local _ .vmem, ⟨0, _⟩ => ⟨S1x128x9x256, .f32⟩
  | .local _ .vmem, ⟨1, _⟩ => ⟨S1x128x9x256, .f32⟩
  | .local _ .vmem, ⟨2, _⟩ => ⟨S1x9x1x128, .i32⟩
  | .local _ .vmem, ⟨3, _⟩ => ⟨S1x9x1x128, .i32⟩
  | .local _ .vmem, ⟨4, _⟩ => ⟨S1x1x128, .i32⟩
  | .local _ .vmem, ⟨5, _⟩ => ⟨S1x1x128, .i32⟩
  | .local _ .smem, ⟨0, _⟩ => ⟨S129, .i32⟩
  | .local _ .smem, ⟨1, _⟩ => ⟨S1, .i32⟩
  | .local _ .smem, ⟨2, _⟩ => ⟨S1x1, .f32⟩
  | .local _ .smem, ⟨3, _⟩ => ⟨S1x1, .f32⟩
  | .local _ .smem, ⟨4, _⟩ => ⟨S1x1, .f32⟩
  | _, _ => ⟨S129x128x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.smem, 0, rfl⟩
abbrev cc0_stg4_0 : Ref sig .tc := ⟨.smem, 1, rfl⟩
abbrev cc0_stg5_0 : Ref sig .tc := ⟨.smem, 2, rfl⟩
abbrev cc0_scratch0 : Ref sig .tc := ⟨.smem, 3, rfl⟩
abbrev cc0_scratch1 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![129], ![false]⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg0 : BitVec 32 := BitVec.ofNat 32 (i 0).val
  let c128_i32 : BitVec 32 := 128#32
  let v343 : BitVec 1 := Scalar.cmpi .eq arg0 c128_i32
  let v344 : BitVec 32 := Scalar.extui v343
  let c0_i32_159 : BitVec 32 := 0#32
  let v345 : BitVec 1 := Scalar.cmpi .ne v344 c0_i32_159
  v345

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x9x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S129 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S129x128x8 : Shape := ⟨3, ![129, 128, 8]⟩
abbrev S129x128x9x256 : Shape := ⟨4, ![129, 128, 9, 256]⟩
abbrev S129 : Shape := ⟨1, ![129]⟩
abbrev S129x128 : Shape := ⟨2, ![129, 128]⟩
abbrev S_ : Shape := ⟨0, ![]⟩
abbrev S128 : Shape := ⟨1, ![128]⟩
abbrev S1x128 : Shape := ⟨2, ![1, 128]⟩
abbrev S129x1 : Shape := ⟨2, ![129, 1]⟩
abbrev S9 : Shape := ⟨1, ![9]⟩
abbrev S1x1x9 : Shape := ⟨3, ![1, 1, 9]⟩
abbrev S129x128x1 : Shape := ⟨3, ![129, 128, 1]⟩
abbrev S129x128x9 : Shape := ⟨3, ![129, 128, 9]⟩
abbrev S129x128x9x1 : Shape := ⟨4, ![129, 128, 9, 1]⟩
abbrev S129x128x9x1x1 : Shape := ⟨5, ![129, 128, 9, 1, 1]⟩
abbrev S1 : Shape := ⟨1, ![1]⟩
abbrev S1x1x1x1x1 : Shape := ⟨5, ![1, 1, 1, 1, 1]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S129x128x8, .i32⟩
  | .hbm, ⟨1, _⟩ => ⟨S129x128x9x256, .f32⟩
  | .hbm, ⟨2, _⟩ => ⟨S129, .i32⟩
  | .hbm, ⟨3, _⟩ => ⟨S129x128, .i32⟩
  | .hbm, ⟨4, _⟩ => ⟨S_, .i32⟩
  | .hbm, ⟨5, _⟩ => ⟨S_, .i32⟩
  | .hbm, ⟨6, _⟩ => ⟨S128, .i32⟩
  | .hbm, ⟨7, _⟩ => ⟨S1x128, .i32⟩
  | .hbm, ⟨8, _⟩ => ⟨S129x1, .i32⟩
  | .hbm, ⟨9, _⟩ => ⟨S129x128, .i32⟩
  | .hbm, ⟨10, _⟩ => ⟨S129x128, .i32⟩
  | .hbm, ⟨11, _⟩ => ⟨S129x128, .i1⟩
  | .hbm, ⟨12, _⟩ => ⟨S9, .i32⟩
  | .hbm, ⟨13, _⟩ => ⟨S1x1x9, .i32⟩
  | .hbm, ⟨14, _⟩ => ⟨S129x128x1, .i32⟩
  | .hbm, ⟨15, _⟩ => ⟨S129x128x9, .i32⟩
  | .hbm, ⟨16, _⟩ => ⟨S129x128x9, .i32⟩
  | .hbm, ⟨17, _⟩ => ⟨S129x128x9, .i1⟩
  | .hbm, ⟨18, _⟩ => ⟨S129x128x1, .i1⟩
  | .hbm, ⟨19, _⟩ => ⟨S129x128x9, .i1⟩
  | .hbm, ⟨20, _⟩ => ⟨S129x128x9, .i1⟩
  | .hbm, ⟨21, _⟩ => ⟨S_, .i32⟩
  | .hbm, ⟨22, _⟩ => ⟨S129x128x1, .i32⟩
  | .hbm, ⟨23, _⟩ => ⟨S129x128x9, .i32⟩
  | .hbm, ⟨24, _⟩ => ⟨S129x128x9, .i32⟩
  | .hbm, ⟨25, _⟩ => ⟨S129x128x9, .i32⟩
  | .hbm, ⟨26, _⟩ => ⟨S129x128x9, .i1⟩
  | .hbm, ⟨27, _⟩ => ⟨S129x128x9, .i32⟩
  | .hbm, ⟨28, _⟩ => ⟨S129x128x9, .i32⟩
  | .hbm, ⟨29, _⟩ => ⟨S_, .f32⟩
  | .hbm, ⟨30, _⟩ => ⟨S129x128x9, .f32⟩
  | .hbm, ⟨31, _⟩ => ⟨S_, .f32⟩
  | .hbm, ⟨32, _⟩ => ⟨S129x128x9, .f32⟩
  | .hbm, ⟨33, _⟩ => ⟨S129x128x9, .f32⟩
  | .hbm, ⟨34, _⟩ => ⟨S129x128x9x1, .f32⟩
  | .hbm, ⟨35, _⟩ => ⟨S129x128x9x256, .f32⟩
  | .hbm, ⟨36, _⟩ => ⟨S129x128x9x256, .f32⟩
  | .hbm, ⟨37, _⟩ => ⟨S129x128x9x256, .f32⟩
  | .hbm, ⟨38, _⟩ => ⟨S_, .f32⟩
  | .hbm, ⟨39, _⟩ => ⟨S129x128x9, .f32⟩
  | .hbm, ⟨40, _⟩ => ⟨S129x128x9x1, .f32⟩
  | .hbm, ⟨41, _⟩ => ⟨S129x128x9x1, .f32⟩
  | .hbm, ⟨42, _⟩ => ⟨S129x128x9x256, .f32⟩
  | .hbm, ⟨43, _⟩ => ⟨S129x128x9x256, .f32⟩
  | .hbm, ⟨44, _⟩ => ⟨S129x128x9x1, .i32⟩
  | .hbm, ⟨45, _⟩ => ⟨S_, .i32⟩
  | .hbm, ⟨46, _⟩ => ⟨S129x128x9x1, .i32⟩
  | .hbm, ⟨47, _⟩ => ⟨S129x128x9x1, .i1⟩
  | .hbm, ⟨48, _⟩ => ⟨S_, .i32⟩
  | .hbm, ⟨49, _⟩ => ⟨S129x128x9x1, .i32⟩
  | .hbm, ⟨50, _⟩ => ⟨S129x128x9x1, .i32⟩
  | .hbm, ⟨51, _⟩ => ⟨S129x128x9x1, .i32⟩
  | .hbm, ⟨52, _⟩ => ⟨S129x128x9x1x1, .i32⟩
  | .hbm, ⟨53, _⟩ => ⟨S1, .i32⟩
  | .hbm, ⟨54, _⟩ => ⟨S_, .i32⟩
  | .hbm, ⟨55, _⟩ => ⟨S129x128x9x1x1, .i32⟩
  | .hbm, ⟨56, _⟩ => ⟨S129x128x9x1x1, .i1⟩
  | .hbm, ⟨57, _⟩ => ⟨S1x1x1x1x1, .i32⟩
  | .hbm, ⟨58, _⟩ => ⟨S129x128x9x1x1, .i32⟩
  | .hbm, ⟨59, _⟩ => ⟨S129x128x9x1x1, .i1⟩
  | .hbm, ⟨60, _⟩ => ⟨S129x128x9x1x1, .i1⟩
  | .hbm, ⟨61, _⟩ => ⟨S_, .i1⟩
  | .hbm, ⟨62, _⟩ => ⟨S129x128x9x1, .i1⟩
  | .hbm, ⟨63, _⟩ => ⟨S129x128x9x1, .f32⟩
  | .hbm, ⟨64, _⟩ => ⟨S_, .f32⟩
  | .hbm, ⟨65, _⟩ => ⟨S129x128x9x1, .f32⟩
  | .hbm, ⟨66, _⟩ => ⟨S129x128x9x1, .f32⟩
  | .hbm, ⟨67, _⟩ => ⟨S129x128x9, .f32⟩
  | .hbm, ⟨68, _⟩ => ⟨S129x128x9, .f32⟩
  | .hbm, ⟨69, _⟩ => ⟨S129x128x9, .i32⟩
  | .hbm, ⟨70, _⟩ => ⟨S_, .i32⟩
  | .hbm, ⟨71, _⟩ => ⟨S_, .i32⟩
  | .hbm, ⟨72, _⟩ => ⟨S_, .f32⟩
  | .hbm, ⟨73, _⟩ => ⟨S_, .f32⟩
  | .hbm, ⟨74, _⟩ => ⟨S129x128x9, .f32⟩
  | .hbm, ⟨75, _⟩ => ⟨S129x128x9, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S1x1, .f32⟩
  | _, _ => ⟨S129x128x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_v20 : Ref sig .tc := ⟨.hbm, 28, rfl⟩
abbrev main_call1_cst : Ref sig .tc := ⟨.hbm, 29, rfl⟩
abbrev main_call1_v0 : Ref sig .tc := ⟨.hbm, 30, rfl⟩
abbrev main_call1_cst_0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_cst_1 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_v21 : Ref sig .tc := ⟨.hbm, 43, rfl⟩
abbrev main_v22 : Ref sig .tc := ⟨.hbm, 44, rfl⟩
abbrev main_call2_c : Ref sig .tc := ⟨.hbm, 45, rfl⟩
abbrev main_call2_v0 : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_c_1 : Ref sig .tc := ⟨.hbm, 53, rfl⟩
abbrev main_call2_c_2 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_3 : Ref sig .tc := ⟨.hbm, 61, rfl⟩
abbrev main_call2_v12 : Ref sig .tc := ⟨.hbm, 62, rfl⟩
abbrev main_call2_v13 : Ref sig .tc := ⟨.hbm, 63, rfl⟩
abbrev main_call2_cst : Ref sig .tc := ⟨.hbm, 64, rfl⟩
abbrev main_call2_v14 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_c_0 : Ref sig .tc := ⟨.hbm, 70, rfl⟩
abbrev main_v27 : Ref sig .tc := ⟨.hbm, 71, rfl⟩
abbrev main_cst : Ref sig .tc := ⟨.hbm, 72, rfl⟩
abbrev main_call3_v0 : Ref sig .tc := ⟨.hbm, 73, rfl⟩
abbrev main_call3_v1 : Ref sig .tc := ⟨.hbm, 74, rfl⟩
abbrev main_v28 : Ref sig .tc := ⟨.hbm, 75, rfl⟩
abbrev main_cst_1 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩

abbrev nD : Nat := 1
abbrev τ : Topo := Topo.v7x

variable {F : FTy → Type} [FloatOps F]
-- ==== Proof.Spec.lean ====
/-
  The masked cross-entropy as plain mathematics over the extended reals: which cells of the [129, 128, 9] box count,
  which class each cell is scored against, the negative log-likelihood of a row of 256 logits, and the mean over the
  counted cells. Both programs are proved to leave this value (`Spec.mean`), so neither is compared with the other's text.
-/
module

public import Idealize.ShloMosaic.Lib.Pointwise

@[expose] public section

noncomputable section

namespace Cert.Spec

open Idealize.ShloMosaic

/-- The shape of the labels. -/
abbrev SLabels : Shape := ⟨3, ![129, 128, 8]⟩
/-- The shape of the logits. -/
abbrev SLogits : Shape := ⟨4, ![129, 128, 9, 256]⟩
/-- The shape of the sequence lengths. -/
abbrev SLengths : Shape := ⟨1, ![129]⟩
/-- The shape of the per-position slot counts. -/
abbrev SSlots : Shape := ⟨2, ![129, 128]⟩

/-- The negative log-likelihood of class `l` under the logits `x`: `log ∑ exp x` minus the logit of class `l`, the latter
    written as the sum that keeps the one summand whose class is `l`. -/
def nll (x : Fin 256 → EReal) (l : BitVec 32) : EReal :=
  Ideal.log (∑ v : Fin 256, Ideal.exp (x v))
    - ∑ v : Fin 256, Scalar.select (IntOp.cmpi .eq (BitVec.ofNat 32 v.val) l) (x v) 0

/-- The bit that says whether slot `k` of position `j` counts, from the sequence's length `s` and the position's number
    of slots `q`: the position lies in the sequence and the slot does not lie past the last one. -/
def counted (s q : BitVec 32) (j k : ℕ) : BitVec 1 :=
  IntOp.andi (IntOp.cmpi .slt (BitVec.ofNat 32 j) s) (IntOp.cmpi .sge q (BitVec.ofNat 32 k))

/-- The class slot `k` is scored against: the end token `e` where `k` is the position's last slot `q`, else the label. -/
def target (q e : BitVec 32) (k : ℕ) (label : BitVec 32) : BitVec 32 :=
  Scalar.select (IntOp.cmpi .eq q (BitVec.ofNat 32 k)) e label

/-- The labels with a ninth column of zeros. -/
def padded (labels : IVec SLabels 32) (i : Fin 129) (j : Fin 128) (k : Fin 9) : BitVec 32 :=
  if h : k.val < 8 then labels (ix3 i j ⟨k.val, h⟩) else 0#32

/-- What cell `(i, j, k)` adds to the summed loss. -/
def lossAt (labels : IVec SLabels 32) (logits : SLogits.Idx → EReal) (lengths : IVec SLengths 32) (slots : IVec SSlots 32)
    (e : BitVec 32) (i : Fin 129) (j : Fin 128) (k : Fin 9) : EReal :=
  Scalar.select (counted (lengths (ix1 i)) (slots (ix2 i j)) j k)
    (nll (fun v => logits (ix4 i j k v)) (target (slots (ix2 i j)) e k (padded labels i j k))) 0

/-- What cell `(i, j, k)` adds to the number of counted cells. -/
def countAt (lengths : IVec SLengths 32) (slots : IVec SSlots 32) (i : Fin 129) (j : Fin 128) (k : Fin 9) : EReal :=
  Scalar.select (counted (lengths (ix1 i)) (slots (ix2 i j)) j k) 1 0

/-- The summed loss over all cells. -/
def lossSum (labels : IVec SLabels 32) (logits : SLogits.Idx → EReal) (lengths : IVec SLengths 32)
    (slots : IVec SSlots 32) (e : BitVec 32) : EReal :=
  ∑ i : Fin 129, ∑ j : Fin 128, ∑ k : Fin 9, lossAt labels logits lengths slots e i j k

/-- The number of counted cells. -/
def countSum (lengths : IVec SLengths 32) (slots : IVec SSlots 32) : EReal :=
  ∑ i : Fin 129, ∑ j : Fin 128, ∑ k : Fin 9, countAt lengths slots i j k

/-- The mean loss: the summed loss over the number of counted cells. -/
def mean (labels : IVec SLabels 32) (logits : SLogits.Idx → EReal) (lengths : IVec SLengths 32) (slots : IVec SSlots 32)
    (e : BitVec 32) : EReal :=
  Ideal.div (lossSum labels logits lengths slots e) (countSum lengths slots)

end Cert.Spec

end
-- ==== Proof.Body.lean ====
/-
  What one run of the kernel's body leaves in its two carried accumulators and in its output, read from the contents of its
  input blocks: the loss accumulator gains the masked losses of the point's 128 × 9 cells, the count accumulator gains the
  number of counted cells, and the last point stores the quotient of the two.
-/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.KernelIdeal.Body

open Cert.KernelIdeal Cert.KernelIdeal.Gen Cert.Spec Idealize.ShloMosaic

/-- The summed loss of one point, from its blocks: over the nine slots and, in each, the 128 positions. -/
def blockLoss (x : Vec Ideal S1x128x9x256 .f32) (lab : Vec Ideal S1x9x1x128 .i32) (q : Vec Ideal S1x1x128 .i32)
    (s e : BitVec 32) : EReal :=
  ∑ k : Fin 9, ∑ j : Fin 128, Scalar.select (counted s (q (ix3 0 0 j)) j k)
    (nll (fun v => x (ix4 0 j k v)) (target (q (ix3 0 0 j)) e k (lab (ix4 0 k 0 j)))) 0

/-- The number of counted cells of one point. -/
def blockCount (q : Vec Ideal S1x1x128 .i32) (s : BitVec 32) : EReal :=
  ∑ k : Fin 9, ∑ j : Fin 128, Scalar.select (counted s (q (ix3 0 0 j)) j k) 1 0

/-- The grid point of the coordinates `i`, as an index of the lengths. -/
def pt (i : grid0.Coords) : Fin 129 := i 0

theorem off1_fin (i : grid0.Coords) (h : k0_off1 i 0 < 129) : (⟨k0_off1 i 0, h⟩ : Fin 129) = pt i := by
  apply Fin.ext
  show k0_off1 i 0 = (i 0).val
  rw [k0_off1_eq]; rfl

theorem sum_nine (f : Fin 9 → EReal) : ∑ k, f k = f 0 + f 1 + f 2 + f 3 + f 4 + f 5 + f 6 + f 7 + f 8 := by
  rw [Fin.sum_univ_castSucc, Fin.sum_univ_eight]; rfl

variable (c : Dev nD) (i : grid0.Coords) (a1 : Memref sig .tc .vmem S1x128x9x256 .f32) (h1 : a1.IsWhole) (a2 : Memref sig .tc .vmem S1x9x1x128 .i32) (h2 : a2.IsWhole) (a3 : Memref sig .tc .vmem S1x1x128 .i32) (h3 : a3.IsWhole) (a4 : Memref sig .tc .smem S129 .i32) (h4 : a4.IsWhole) (a5 : Memref sig .tc .smem S1 .i32) (h5 : a5.IsWhole) (a6 : Memref sig .tc .smem S1x1 .f32) (h6 : a6.IsWhole) (a7 : Memref sig .tc .smem S1x1 .f32) (h7 : a7.IsWhole) (a8 : Memref sig .tc .smem S1x1 .f32) (h8 : a8.IsWhole)
  (x0 : Vec Ideal S1x128x9x256 .f32) (x1 : Vec Ideal S1x9x1x128 .i32) (x2 : Vec Ideal S1x1x128 .i32) (x3 : Vec Ideal S129 .i32) (x4 : Vec Ideal S1 .i32) (xs0 xs1 : Vec Ideal S1x1 .f32)

/-- A middle point adds its summed loss to what the loss accumulator held. -/
theorem loss_mid (hc0 : ¬cond0_0 i) (hc1 : ¬cond0_1 i) (y : S1x1.Idx) :
    sout0_B_0 c i a1 h1 a2 h2 a3 h3 a4 h4 a5 h5 a6 h6 a7 h7 a8 h8 hc0 hc1 x0 x1 x2 x3 x4 xs0 xs1 y
      = xs0 (ix2 0 0) + blockLoss x0 x1 x2 (x3 (ix1 (pt i))) (x4 (ix1 0)) := by
  frame_out
  unfold_payloads
  pointwise [blockLoss, nll, counted, target, off1_fin, sum_nine]

/-- A middle point adds its number of counted cells to what the count accumulator held. -/
theorem count_mid (hc0 : ¬cond0_0 i) (hc1 : ¬cond0_1 i) (y : S1x1.Idx) :
    sout0_B_1 c i a1 h1 a2 h2 a3 h3 a4 h4 a5 h5 a6 h6 a7 h7 a8 h8 hc0 hc1 x0 x1 x2 x3 x4 xs0 xs1 y
      = xs1 (ix2 0 0) + blockCount x2 (x3 (ix1 (pt i))) := by
  frame_out
  unfold_payloads
  pointwise [blockCount, counted, off1_fin, sum_nine]

/-- The first point clears the loss accumulator first, so leaves its summed loss there. -/
theorem loss_first (hc0 : cond0_0 i) (hc1 : ¬cond0_1 i) (y : S1x1.Idx) :
    sout0_A_0 c i a1 h1 a2 h2 a3 h3 a4 h4 a5 h5 a6 h6 a7 h7 a8 h8 hc0 hc1 x0 x1 x2 x3 x4 y
      = 0 + blockLoss x0 x1 x2 (x3 (ix1 (pt i))) (x4 (ix1 0)) := by
  frame_out
  unfold_payloads
  pointwise [blockLoss, nll, counted, target, off1_fin, sum_nine]

/-- The first point clears the count accumulator first, so leaves its number of counted cells there. -/
theorem count_first (hc0 : cond0_0 i) (hc1 : ¬cond0_1 i) (y : S1x1.Idx) :
    sout0_A_1 c i a1 h1 a2 h2 a3 h3 a4 h4 a5 h5 a6 h6 a7 h7 a8 h8 hc0 hc1 x0 x1 x2 x3 x4 y
      = 0 + blockCount x2 (x3 (ix1 (pt i))) := by
  frame_out
  unfold_payloads
  pointwise [blockCount, counted, off1_fin, sum_nine]

/-- The last point stores the quotient of the two accumulators after adding its own loss and count. -/
theorem out_last (hc0 : ¬cond0_0 i) (hc1 : cond0_1 i) (y : S1x1.Idx) :
    out0_C_5 c i a1 h1 a2 h2 a3 h3 a4 h4 a5 h5 a6 h6 a7 h7 a8 h8 hc0 hc1 x0 x1 x2 x3 x4 xs0 xs1 y
      = Ideal.div (xs0 (ix2 0 0) + blockLoss x0 x1 x2 (x3 (ix1 (pt i))) (x4 (ix1 0)))
          (xs1 (ix2 0 0) + blockCount x2 (x3 (ix1 (pt i)))) := by
  frame_out
  unfold_payloads
  pointwise [blockLoss, blockCount, nll, counted, target, off1_fin, sum_nine]

end Cert.KernelIdeal.Body

end
-- ==== Proof.Blocks.lean ====
/-
  What the kernel's input blocks hold at a grid point, read from the launched arguments: point `t` of the grid stages
  sequence `t`'s logits, padded labels and slot counts, and the whole lengths and the end token.
-/
module

public import proofs.«01_k».proof.Proof.Gen.KernelIdeal.Frame
public import proofs.«01_k».proof.Proof.Spec
public import Idealize.ShloMosaic.Lib.Claim
public import Idealize.ShloMosaic.Lib.Pipeline.ValueKit

@[expose] public section

noncomputable section

namespace Cert.KernelIdeal.Blocks

open Cert.KernelIdeal Cert.KernelIdeal.Gen Cert.Spec Idealize.ShloMosaic Idealize.ShloMosaic.TcCoe

variable (m : (ℓ : Loc nD τ sig) → Buf (Elt Ideal) ℓ) (c : Dev nD)

/-- Every window's block index at a grid point: the point itself on the leading axis, or the whole array. -/
theorem idx : ∀ t : Fin cfg0.N, win0_0.index t = ![t.val, 0, 0, 0] ∧ win0_1.index t = ![t.val, 0, 0, 0]
    ∧ win0_2.index t = ![t.val, 0, 0] ∧ win0_3.index t = ![0] ∧ win0_4.index t = ![0] ∧ win0_5.index t = ![0, 0] :=
  (by decide +kernel : ∀ t : Fin grid0.N, _)

/-- A grid point as an index of the leading axis. -/
def row (t : Fin cfg0.N) : Fin 129 := ⟨t.val, lt_of_lt_of_eq t.isLt N_0⟩

/-- The logits' block. -/
theorem block_logits (t : Fin cfg0.N) (j : Fin 128) (k : Fin 9) (v : Fin 256) :
    (iblk m c 0 t : S1x128x9x256.Idx → EReal) (ix4 0 j k v) = m ((c : Thread nD τ).loc main_arg1) (ix4 (row t) j k v) := by
  blk_ext [iblk, V, idx t, row]

/-- The labels' block holds the padded labels. -/
theorem block_labels (t : Fin cfg0.N) (j : Fin 128) (k : Fin 9) :
    (iblk m c 1 t : S1x9x1x128.Idx → BitVec 32) (ix4 0 k 0 j) = padded (m ((c : Thread nD τ).loc main_arg0)) (row t) j k := by
  have e : ((cfg0.win 1).blk t).view.emb (ix4 0 k 0 j) = (ix4 (row t) k 0 j : S129x9x1x128.Idx) := by
    blk_ext [idx t, row]
  show V m c main_v3 (((cfg0.win 1).blk t).view.emb (ix4 0 k 0 j)) = _
  rw [e]
  entry_read
  pointwise [padded]

/-- The slot counts' block. -/
theorem block_slots (t : Fin cfg0.N) (j : Fin 128) :
    (iblk m c 2 t : S1x1x128.Idx → BitVec 32) (ix3 0 0 j) = m ((c : Thread nD τ).loc main_arg3) (ix2 (row t) j) := by
  blk_ext! [iblk, V, idx t, row]

/-- The lengths' block is the whole array. -/
theorem block_lengths (t : Fin cfg0.N) (i : Fin 129) :
    (iblk m c 3 t : S129.Idx → BitVec 32) (ix1 i) = m ((c : Thread nD τ).loc main_arg2) (ix1 i) := by
  blk_ext! [iblk, V, idx t]

/-- The end token's block. -/
theorem block_end (t : Fin cfg0.N) :
    (iblk m c 4 t : S1.Idx → BitVec 32) (ix1 0) = m ((c : Thread nD τ).loc main_arg5) ix0 := by
  blk_ext! [iblk, V, idx t]

end Cert.KernelIdeal.Blocks

end
-- ==== Proof.KernelValue.lean ====
/-
  What the kernel leaves in its result: the two accumulators hold, after point `n`, the sums of the points up to `n`, so the
  one element the last point stores, and so the result array, is the mean loss of the launched arguments.
-/
module

public import proofs.«01_k».proof.Proof.Body
public import proofs.«01_k».proof.Proof.Blocks

@[expose] public section

set_option maxRecDepth 16384

noncomputable section

namespace Cert.KernelIdeal.KernelValue

open Cert.KernelIdeal Cert.KernelIdeal.Gen Cert.KernelIdeal.Body Cert.KernelIdeal.Blocks Cert.Spec
open Idealize.ShloMosaic Idealize.ShloMosaic.TcCoe

variable (m : (ℓ : Loc nD τ sig) → Buf (Elt Ideal) ℓ) (c : Dev nD)

/-- Sequence `i`'s summed loss, over the launched arguments. -/
def rowLoss (i : Fin 129) : EReal :=
  ∑ j : Fin 128, ∑ k : Fin 9, lossAt (m ((c : Thread nD τ).loc main_arg0)) (m ((c : Thread nD τ).loc main_arg1))
    (m ((c : Thread nD τ).loc main_arg2)) (m ((c : Thread nD τ).loc main_arg3)) (m ((c : Thread nD τ).loc main_arg5) ix0) i j k

/-- Sequence `i`'s number of counted cells. -/
def rowCount (i : Fin 129) : EReal :=
  ∑ j : Fin 128, ∑ k : Fin 9, countAt (m ((c : Thread nD τ).loc main_arg2)) (m ((c : Thread nD τ).loc main_arg3)) i j k

/-- The grid point of a point's coordinates is the point. -/
theorem pt_coords (t : Fin cfg0.N) : pt (grid0.coords t) = row t :=
  Fin.ext ((by decide +kernel : ∀ t : Fin grid0.N, (grid0.coords t 0).val = t.val) t)

/-- A point's summed loss is its sequence's. -/
theorem blockLoss_eq (t : Fin cfg0.N) :
    blockLoss (iblk m c 0 t) (iblk m c 1 t) (iblk m c 2 t) ((iblk m c 3 t : S129.Idx → BitVec 32) (ix1 (pt (grid0.coords t))))
      ((iblk m c 4 t : S1.Idx → BitVec 32) (ix1 0)) = rowLoss m c (row t) := by
  rw [pt_coords]
  unfold blockLoss rowLoss
  rw [Finset.sum_comm]
  simp only [block_logits, block_labels, block_slots, block_lengths, block_end, lossAt]

/-- A point's number of counted cells is its sequence's. -/
theorem blockCount_eq (t : Fin cfg0.N) :
    blockCount (iblk m c 2 t) ((iblk m c 3 t : S129.Idx → BitVec 32) (ix1 (pt (grid0.coords t)))) = rowCount m c (row t) := by
  rw [pt_coords]
  unfold blockCount rowCount
  rw [Finset.sum_comm]
  simp only [block_slots, block_lengths, countAt]

/-- After a point before the last, the loss accumulator holds the summed losses of the sequences so far. -/
theorem loss_acc : ∀ (n : ℕ) (h : n < cfg0.N) (h' : n < 128) (y : S1x1.Idx),
    (outsAt0 m c n h).2.1 y = ∑ i : Fin (n + 1), rowLoss m c ⟨i.val, by omega⟩
  | 0, h, _, y => by
    rw [outsAt0_A m c ⟨0, h⟩ rfl (by dsimp only; omega)]
    dsimp only
    rw [loss_first, blockLoss_eq, zero_add, Fin.sum_univ_one]
    rfl
  | n + 1, h, h', y => by
    rw [outsAt0_B m c ⟨n + 1, h⟩ (by dsimp only; omega) (by dsimp only; omega)]
    dsimp only
    rw [loss_mid, blockLoss_eq, Fin.sum_univ_castSucc]
    have e := loss_acc n (Nat.lt_of_succ_lt h) (by omega) (ix2 0 0)
    exact congrArg₂ _ e rfl

/-- After a point before the last, the count accumulator holds the counted cells of the sequences so far. -/
theorem count_acc : ∀ (n : ℕ) (h : n < cfg0.N) (h' : n < 128) (y : S1x1.Idx),
    (outsAt0 m c n h).2.2 y = ∑ i : Fin (n + 1), rowCount m c ⟨i.val, by omega⟩
  | 0, h, _, y => by
    rw [outsAt0_A m c ⟨0, h⟩ rfl (by dsimp only; omega)]
    dsimp only
    rw [count_first, blockCount_eq, zero_add, Fin.sum_univ_one]
    rfl
  | n + 1, h, h', y => by
    rw [outsAt0_B m c ⟨n + 1, h⟩ (by dsimp only; omega) (by dsimp only; omega)]
    dsimp only
    rw [count_mid, blockCount_eq, Fin.sum_univ_castSucc]
    have e := count_acc n (Nat.lt_of_succ_lt h) (by omega) (ix2 0 0)
    exact congrArg₂ _ e rfl

/-- The grid's last point. -/
def lastPt : Fin cfg0.N := ⟨128, lt_of_lt_of_eq (by decide) N_0.symm⟩

/-- Before the last point the loss accumulator holds the summed losses of all sequences but the last. -/
theorem loss_before (n : ℕ) (h : n < cfg0.N) (hn : n = 127) (y : S1x1.Idx) :
    (outsAt0 m c n h).2.1 y = ∑ i : Fin 128, rowLoss m c i.castSucc := by
  subst hn
  rw [loss_acc m c 127 h (by decide) y]
  exact Finset.sum_congr rfl fun i _ => rfl

/-- Before the last point the count accumulator holds the counted cells of all sequences but the last. -/
theorem count_before (n : ℕ) (h : n < cfg0.N) (hn : n = 127) (y : S1x1.Idx) :
    (outsAt0 m c n h).2.2 y = ∑ i : Fin 128, rowCount m c i.castSucc := by
  subst hn
  rw [count_acc m c 127 h (by decide) y]
  exact Finset.sum_congr rfl fun i _ => rfl

/-- The last point stores the mean loss. -/
theorem stored (y : S1x1.Idx) : (outsAt0 m c lastPt.val lastPt.isLt).1 y
    = mean (m ((c : Thread nD τ).loc main_arg0)) (m ((c : Thread nD τ).loc main_arg1))
    (m ((c : Thread nD τ).loc main_arg2)) (m ((c : Thread nD τ).loc main_arg3)) (m ((c : Thread nD τ).loc main_arg5) ix0) := by
  rw [outsAt0_C m c lastPt (by decide) (by decide)]
  dsimp only
  rw [out_last, blockLoss_eq, blockCount_eq]
  rw [loss_before m c (lastPt.val - 1) _ rfl, count_before m c (lastPt.val - 1) _ rfl]
  have l : row lastPt = Fin.last 128 := rfl
  rw [l, ← Fin.sum_univ_castSucc (rowLoss m c), ← Fin.sum_univ_castSucc (rowCount m c)]
  rfl

/-- The result array's one element is the mean loss. -/
theorem final : (dats m 0 c).arrAt 5 cfg0.N
    = fun _ => mean (m ((c : Thread nD τ).loc main_arg0)) (m ((c : Thread nD τ).loc main_arg1))
    (m ((c : Thread nD τ).loc main_arg2)) (m ((c : Thread nD τ).loc main_arg3)) (m ((c : Thread nD τ).loc main_arg5) ix0) := by
  refine (dats m 0 c).arrAt_eq_of_after_last 5 lastPt (by decide +kernel) _ fun j => ?_
  blk_simp
  rw [after0_5]
  exact stored m c j

end Cert.KernelIdeal.KernelValue

end
-- ==== Proof.RefCell.lean ====
/-
  What the reference computes at one cell (i, j, k) before its sums: whether the cell counts, which class it is scored
  against, the row's log-softmax, and the entry of it the class selects.
-/
module

public import proofs.«01_k».proof.Proof.Gen.ReferenceIdeal.Read
public import proofs.«01_k».proof.Proof.Spec
public import Idealize.ShloMosaic.Lib.ReduceAll
public import Idealize.ShloMosaic.Lib.StableHlo.Predicate

@[expose] public section

noncomputable section

namespace Cert.ReferenceIdeal.RefCell

open Cert.ReferenceIdeal Cert.ReferenceIdeal.Gen Cert.ReferenceIdeal.Read Cert.Spec Idealize.ShloMosaic

variable (x0 : IVec S129x128x8 32) (x1 : FVec Ideal S129x128x9x256 .f32) (x2 : IVec S129 32) (x3 : IVec S129x128 32)
  (x5 : IVec S_ 32) (i : Fin 129) (j : Fin 128) (k : Fin 9)

/-- A select on the bit 1 takes its first operand. -/
theorem select_one {α : Type} (a b : α) : Scalar.select 1#1 a b = a := rfl

/-- A select on the bit 0 takes its second operand. -/
theorem select_zero {α : Type} (a b : α) : Scalar.select 0#1 a b = b := rfl

/-- The class cell `(i, j, k)` is scored against. -/
def cls : BitVec 32 := target (x3 (ix2 i j)) (x5 ix0) k (padded x0 i j k)

/-- The reference's mask says whether the cell counts. -/
theorem mask_at : (val_main_v14 (F := Ideal) x2 x3 : S129x128x9.Idx → BitVec 1) (ix3 i j k)
    = counted (x2 (ix1 i)) (x3 (ix2 i j)) j k := by
  pointwise [val_main_v14, val_main_v13, val_main_v12, val_main_v11, val_main_v10, val_main_v9, val_main_v8, val_main_v7,
    val_main_v6, val_main_v5, val_main_v4, val_main_v3, val_main_v2, val_main_v1, val_main_v0]
  exact BitVec.and_comm _ _

/-- The reference's class at the cell. -/
theorem class_at : (val_main_v20 (F := Ideal) x0 x3 x5 : S129x128x9.Idx → BitVec 32) (ix3 i j k) = cls x0 x3 x5 i j k := by
  pointwise [val_main_v20, val_main_v19, val_main_v18, val_main_v17, val_main_v16, val_main_v15, val_main_c, val_main_v8,
    val_main_v7, val_main_v6, val_main_call0_v0, cls, target, padded]
  have e : ∀ a b : BitVec 32, IntOp.cmpi .eq a b = IntOp.cmpi .eq b a := fun a b => by
    show BitVec.ofBool (a == b) = BitVec.ofBool (b == a)
    rw [Bool.beq_comm]
  rw [e]

/-- The largest logit of the cell's row, with the reduction's initial value as its least. -/
def rowMax (x : Fin 256 → EReal) : EReal := Finset.univ.fold max (Ideal.ofBits .f32 0xFF800000#32) x

/-- The reference's row maximum. -/
theorem max_at : (val_main_call1_v0 (F := Ideal) x1 : S129x128x9.Idx → EReal) (ix3 i j k)
    = rowMax fun v => x1 (ix4 i j k v) := by
  pointwise [val_main_call1_v0, val_main_call1_cst, rowMax]

/-- The reference's row shifted by its maximum. -/
theorem shifted_at (v : Fin 256) : (val_main_call1_v5 (F := Ideal) x1 : S129x128x9x256.Idx → EReal) (ix4 i j k v)
    = x1 (ix4 i j k v) - max (Ideal.ofBits .f32 0xFF800000#32) (rowMax fun v => x1 (ix4 i j k v)) := by
  have e : idx_main_call1_v3 (idx_main_call1_v4 (ix4 i j k v)) = ix3 i j k := by
    funext a
    match a with
    | ⟨0, _⟩ => rfl
    | ⟨1, _⟩ => rfl
    | ⟨2, _⟩ => rfl
  rw [val_main_call1_v5_apply, val_main_call1_v4_apply, val_main_call1_v3_apply, val_main_call1_v2_apply,
    val_main_call1_v1_apply, val_main_call1_cst_0_apply, e, max_at]
  generalize rowMax (fun v => x1 (ix4 i j k v)) = M
  rfl

/-- The reference's log-softmax of the row, from the shifted row. -/
theorem logp_at (v : Fin 256) : (val_main_v21 (F := Ideal) x1 : S129x128x9x256.Idx → EReal) (ix4 i j k v)
    = (val_main_call1_v5 (F := Ideal) x1 : S129x128x9x256.Idx → EReal) (ix4 i j k v)
      - Ideal.log (∑ w : Fin 256, Ideal.exp ((val_main_call1_v5 (F := Ideal) x1 : S129x128x9x256.Idx → EReal) (ix4 i j k w))) := by
  pointwise [val_main_v21, val_main_call1_v10, val_main_call1_v9, val_main_call1_v8, val_main_call1_v7, val_main_call1_v6,
    val_main_call1_cst_1]

/-- The class after the reference's wrap of negative classes: an admitted class is left as it is. -/
theorem wrapped_at (h : (cls x0 x3 x5 i j k).toNat < 256) :
    (val_main_call2_v5 (F := Ideal) x0 x3 x5 : S129x128x9x1x1.Idx → BitVec 32) (ix5 i j k 0 0) = cls x0 x3 x5 i j k := by
  pointwise [val_main_call2_v5, val_main_call2_v4, val_main_call2_v3, val_main_call2_v2, val_main_call2_v1,
    val_main_call2_v0, val_main_call2_c, val_main_call2_c_0, val_main_v22]
  rw [class_at]
  have e : IntOp.cmpi .slt (cls x0 x3 x5 i j k) 0#32 = 0#1 := by
    rcases BitVec.eq_zero_or_eq_one (IntOp.cmpi .slt (cls x0 x3 x5 i j k) 0#32) with h0 | h1
    · exact h0
    · exact absurd ((StableHlo.Predicate.slt_iff_toNat (by omega) (by decide)).1 h1) (Nat.not_lt_zero _)
  rw [e, select_zero]

/-- The reference's range check passes everywhere when every class is admitted. -/
theorem inRange_at (h : ∀ i j k, (cls x0 x3 x5 i j k).toNat < 256) (y : S129x128x9x1.Idx) :
    (val_main_call2_v12 (F := Ideal) x0 x3 x5 : S129x128x9x1.Idx → BitVec 1) y = 1#1 := by
  unfold val_main_call2_v12
  refine Host.reduce_andi_one _ _ _ _ _ rfl fun z => ?_
  idx_vars z
  obtain rfl := Subsingleton.elim z3 0
  obtain rfl := Subsingleton.elim z4 0
  pointwise [val_main_call2_v11, val_main_call2_v10, val_main_call2_v9, val_main_call2_v8, val_main_call2_v7,
    val_main_call2_v6, val_main_call2_c_1, val_main_call2_c_2]
  rw [wrapped_at _ _ _ _ _ _ (h _ _ _)]
  have hz := h z0 z1 z2
  rw [(StableHlo.Predicate.sge_iff_toNat (by omega) (by decide)).2 (Nat.zero_le _),
    (StableHlo.Predicate.sle_iff_toNat (by omega) (by decide)).2 (by show _ ≤ 255; omega)]
  rfl

/-- The gather reads the row at its start index, read signed and clamped to the row. -/
theorem gather_at (X : S129x128x9x256.Idx → EReal) (I : IVec S129x128x9x1x1 32) :
    Host.gather gather_S129x128x9x256_S129x128x9x1x1_S129x128x9x1_n_3_012_012_3_4_1111 X I (ix4 i j k 0)
      = X (ix4 i j k ⟨min (I (ix5 i j k 0 0)).toInt.toNat 255, by omega⟩) := by
  unfold Host.gather
  congr 1
  funext a
  apply Fin.ext
  match a with
  | ⟨0, _⟩ => exact (show 0 + i.val + 0 = i.val by omega)
  | ⟨1, _⟩ => exact (show 0 + j.val + 0 = j.val by omega)
  | ⟨2, _⟩ => exact (show 0 + k.val + 0 = k.val by omega)
  | ⟨3, _⟩ =>
    have e : GatherDims.siIdx gather_S129x128x9x256_S129x128x9x1x1_S129x128x9x1_n_3_012_012_3_4_1111 (ix4 i j k 0)
        ⟨0, by decide⟩ = ix5 i j k 0 0 := by
      funext b
      match b with
      | ⟨0, _⟩ => rfl
      | ⟨1, _⟩ => rfl
      | ⟨2, _⟩ => rfl
      | ⟨3, _⟩ => rfl
      | ⟨4, _⟩ => rfl
    show min (I (GatherDims.siIdx gather_S129x128x9x256_S129x128x9x1x1_S129x128x9x1_n_3_012_012_3_4_1111 (ix4 i j k 0)
      ⟨0, by decide⟩)).toInt.toNat (256 - 1) + 0 + 0 = min (I (ix5 i j k 0 0)).toInt.toNat 255
    rw [e]
    rfl

/-- The reference's summand at the cell: minus the log-softmax at the class where the cell counts, else zero. -/
theorem cell_at (h : ∀ i j k, (cls x0 x3 x5 i j k).toNat < 256) :
    (val_main_v28 (F := Ideal) x0 x1 x2 x3 x5 : S129x128x9.Idx → EReal) (ix3 i j k)
      = Scalar.select (counted (x2 (ix1 i)) (x3 (ix2 i j)) j k)
          (-(val_main_v21 (F := Ideal) x1 : S129x128x9x256.Idx → EReal) (ix4 i j k ⟨(cls x0 x3 x5 i j k).toNat, h i j k⟩)) 0 := by
  pointwise [val_main_v28, val_main_v25, val_main_v24, val_main_v23, val_main_call3_v1, val_main_call3_v0, val_main_cst]
  rw [mask_at, inRange_at _ _ _ h, select_one]
  unfold val_main_call2_v13
  rw [gather_at]
  have hc := h i j k
  have e : min ((val_main_call2_v5 (F := Ideal) x0 x3 x5 : S129x128x9x1x1.Idx → BitVec 32) (ix5 i j k 0 0)).toInt.toNat 255
      = (cls x0 x3 x5 i j k).toNat := by
    rw [wrapped_at _ _ _ _ _ _ hc, StableHlo.Predicate.toInt_eq_toNat_of_lt (by omega)]
    omega
  have z : (constant (F := Ideal) S_ .f32 0#32 : S_.Idx → EReal) ix0 = 0 := by pointwise
  simp only [e, id, z]

end Cert.ReferenceIdeal.RefCell

end
-- ==== Proof.RowMath.lean ====
/-
  The mathematics of one row: minus the shifted log-softmax at the class is the negative log-likelihood `Spec.nll`, for a
  row of extended reals whose maximum is a real number.
-/
module

public import proofs.«01_k».proof.Proof.RefCell

@[expose] public section

noncomputable section

namespace Cert.RowMath

open Cert.Spec Cert.ReferenceIdeal.RefCell Idealize.ShloMosaic

/-- The word of minus infinity is minus infinity. -/
theorem ofBits_bot : Ideal.ofBits .f32 0xFF800000#32 = ⊥ := by
  simp [Ideal.ofBits, Ideal.ieee]

/-- The word of plus infinity is plus infinity. -/
theorem ofBits_top : Ideal.ofBits .f32 0x7F800000#32 = ⊤ := by
  simp [Ideal.ofBits, Ideal.ieee]

/-- A finite sum of reals, summed among the extended reals. -/
theorem sum_coe {n : ℕ} (f : Fin n → ℝ) : ∑ i, ((f i : ℝ) : EReal) = ((∑ i, f i : ℝ) : EReal) := by
  induction n with
  | zero => simp
  | succ n ih => rw [Fin.sum_univ_succ, Fin.sum_univ_succ, EReal.coe_add, ih]

/-- The real number `exp x`, zero at minus infinity. -/
def expR (x : EReal) : ℝ := if x = ⊥ then 0 else Real.exp x.toReal

theorem expR_nonneg (x : EReal) : 0 ≤ expR x := by
  unfold expR; split
  · exact le_rfl
  · exact (Real.exp_pos _).le

/-- Below plus infinity, the exponential is the real one, and shifting the argument by a real scales it. -/
theorem exp_shift (x : EReal) (hx : x ≠ ⊤) (r : ℝ) : Ideal.exp (x - (r : EReal)) = ((expR x * Real.exp (-r) : ℝ) : EReal) := by
  induction x with
  | bot => simp [expR]
  | top => exact absurd rfl hx
  | coe a =>
    rw [← EReal.coe_sub, Ideal.exp_coe]
    simp [expR, sub_eq_add_neg, Real.exp_add]

theorem exp_plain (x : EReal) (hx : x ≠ ⊤) : Ideal.exp x = ((expR x : ℝ) : EReal) := by
  have h := exp_shift x hx 0
  simpa using h

/-- The row maximum is the supremum of the row. -/
theorem rowMax_eq (x : Fin 256 → EReal) : rowMax x = Finset.univ.sup x := by
  unfold rowMax Finset.sup
  rw [ofBits_bot]

/-- The sum that keeps the summand of class `l` is that summand. -/
theorem sum_pick (x : Fin 256 → EReal) (l : BitVec 32) (hl : l.toNat < 256) :
    ∑ v : Fin 256, Scalar.select (IntOp.cmpi .eq (BitVec.ofNat 32 v.val) l) (x v) 0 = x ⟨l.toNat, hl⟩ := by
  rw [Finset.sum_eq_single (⟨l.toNat, hl⟩ : Fin 256)]
  · have e : IntOp.cmpi .eq (BitVec.ofNat 32 l.toNat) l = 1#1 :=
      StableHlo.Predicate.cmpi_eq_iff.2 (by simp)
    simp only [e, select_one]
  · intro v _ hv
    rcases BitVec.eq_zero_or_eq_one (IntOp.cmpi .eq (BitVec.ofNat 32 v.val) l) with h | h
    · rw [h, select_zero]
    · exfalso
      apply hv
      apply Fin.ext
      have hw := congrArg BitVec.toNat (StableHlo.Predicate.cmpi_eq_iff.1 h)
      rw [BitVec.toNat_ofNat] at hw
      show v.val = l.toNat
      omega
  · intro h; exact absurd (Finset.mem_univ _) h

/-- The negative log-likelihood is minus the log-softmax of the row shifted by its maximum. -/
theorem nll_eq (x : Fin 256 → EReal) (l : BitVec 32) (hl : l.toNat < 256) (r : ℝ) (hM : rowMax x = (r : EReal)) :
    nll x l = -((x ⟨l.toNat, hl⟩ - (r : EReal)) - Ideal.log (∑ w : Fin 256, Ideal.exp (x w - (r : EReal)))) := by
  rw [rowMax_eq] at hM
  have hle : ∀ v, x v ≤ (r : EReal) := fun v => hM ▸ Finset.le_sup (Finset.mem_univ v)
  have ht : ∀ v, x v ≠ ⊤ := fun v h => absurd (hle v) (by rw [h]; simp)
  obtain ⟨v0, hv0⟩ : ∃ v, x v ≠ ⊥ := by
    by_contra hne
    push Not at hne
    have : Finset.univ.sup x = ⊥ := (Finset.sup_eq_bot_iff _ _).2 fun v _ => hne v
    rw [hM] at this
    exact EReal.coe_ne_bot r this
  have hs : 0 < ∑ v, expR (x v) := by
    refine Finset.sum_pos' (fun v _ => expR_nonneg _) ⟨v0, Finset.mem_univ _, ?_⟩
    unfold expR
    rw [if_neg hv0]
    exact Real.exp_pos _
  unfold nll
  rw [sum_pick x l hl, Finset.sum_congr rfl fun v _ => exp_plain (x v) (ht v),
    Finset.sum_congr rfl fun v _ => exp_shift (x v) (ht v) r, sum_coe, sum_coe, ← Finset.sum_mul]
  generalize ∑ v, expR (x v) = s at hs
  rw [Ideal.log_coe, Ideal.log_coe, if_neg (not_le.2 hs), if_neg (not_le.2 (mul_pos hs (Real.exp_pos _))),
    Real.log_mul hs.ne' (Real.exp_pos _).ne', Real.log_exp]
  have hl' := ht ⟨l.toNat, hl⟩
  generalize x ⟨l.toNat, hl⟩ = a at hl'
  induction a with
  | bot => simp [← EReal.coe_add, ← EReal.coe_neg]
  | top => exact absurd rfl hl'
  | coe a =>
    rw [← EReal.coe_sub, ← EReal.coe_sub, ← EReal.coe_sub, ← EReal.coe_neg]
    congr 1
    ring

end Cert.RowMath

end
-- ==== Proof.RefValue.lean ====
/-
  What the reference computes: each summand is the specification's, the count of the counted cells is the sum of their
  ones, and so its one result is the mean loss — for classes below 256 and rows whose maximum is a real number.
-/
module

public import proofs.«01_k».proof.Proof.RowMath
public import Idealize.ShloMosaic.Lib.IndicatorCount

@[expose] public section

set_option maxRecDepth 16384

noncomputable section

namespace Cert.ReferenceIdeal.RefValue

open Cert.ReferenceIdeal Cert.ReferenceIdeal.Read Cert.ReferenceIdeal.Gen Cert.ReferenceIdeal.RefCell Cert.RowMath Cert.Spec
open Idealize.ShloMosaic

variable (x0 : IVec S129x128x8 32) (x1 : S129x128x9x256.Idx → EReal) (x2 : IVec S129 32) (x3 : IVec S129x128 32)
  (x5 : IVec S_ 32)

/-- The reference's summand at a cell is the specification's. -/
theorem summand (h : ∀ i j k, (cls x0 x3 x5 i j k).toNat < 256)
    (hM : ∀ i j k, ∃ r : ℝ, rowMax (fun v => x1 (ix4 i j k v)) = (r : EReal)) (i : Fin 129) (j : Fin 128) (k : Fin 9) :
    (val_main_v28 (F := Ideal) x0 x1 x2 x3 x5 : S129x128x9.Idx → EReal) (ix3 i j k) = lossAt x0 x1 x2 x3 (x5 ix0) i j k := by
  obtain ⟨r, hr⟩ := hM i j k
  have e : max (Ideal.ofBits .f32 0xFF800000#32) (r : EReal) = r := by rw [ofBits_bot]; exact max_eq_right bot_le
  rw [cell_at _ _ _ _ _ _ _ _ h, logp_at]
  simp only [shifted_at, hr, e]
  exact congrArg (fun y => Scalar.select (counted (x2 (ix1 i)) (x3 (ix2 i j)) j k) y 0)
    (nll_eq (fun v => x1 (ix4 i j k v)) (cls x0 x3 x5 i j k) (h i j k) r hr).symm

/-- The reference's summed loss is the specification's. -/
theorem total (h : ∀ i j k, (cls x0 x3 x5 i j k).toNat < 256)
    (hM : ∀ i j k, ∃ r : ℝ, rowMax (fun v => x1 (ix4 i j k v)) = (r : EReal)) :
    (val_main_v29 (F := Ideal) x0 x1 x2 x3 x5 : S_.Idx → EReal) ix0 = lossSum x0 x1 x2 x3 (x5 ix0) := by
  have z : (val_main_cst_1 (F := Ideal) : S_.Idx → EReal) (Shape.Idx.first h_S_) = 0 := by pointwise [val_main_cst_1]
  rw [val_main_v29_apply, z, zero_add, sum_idx3]
  simp only [summand x0 x1 x2 x3 x5 h hM]
  rfl

/-- The reference's integer count is the number of counted cells. -/
theorem tally : (val_main_v27 (F := Ideal) x2 x3 : S_.Idx → BitVec 32) ix0
    = BitVec.ofNat 32 (Finset.univ.filter fun p : S129x128x9.Idx =>
        (val_main_v14 (F := Ideal) x2 x3 : S129x128x9.Idx → BitVec 1) p = 1#1).card := by
  unfold val_main_v27
  rw [Host.reduce_eq_fold, Finset.filter_true_of_mem fun p _ => Subsingleton.elim _ _]
  exact IndicatorCount.fold_addi_setWidth_eq_card _ _

/-- Ones over the indices where a bit is set add up to how many there are. -/
theorem sum_ones {ι : Type} [DecidableEq ι] (S : Finset ι) (p : ι → BitVec 1) :
    ∑ q ∈ S, (Scalar.select (p q) (1 : EReal) 0) = (((S.filter fun q => p q = 1#1).card : ℝ) : EReal) := by
  induction S using Finset.induction_on with
  | empty => simp
  | insert a S ha ih =>
    rw [Finset.sum_insert ha, ih, Finset.filter_insert]
    by_cases hp : p a = 1#1
    · rw [if_pos hp, Finset.card_insert_of_notMem fun hm => ha (Finset.mem_filter.1 hm).1, hp, select_one, Nat.cast_succ,
        EReal.coe_add, EReal.coe_one, add_comm]
    · rw [if_neg hp, (BitVec.eq_zero_or_eq_one (p a)).resolve_right hp, select_zero, zero_add]

/-- The reference's count, read as a number, is the specification's. -/
theorem count : (val_main_v30 (F := Ideal) x2 x3 : S_.Idx → EReal) ix0 = countSum x2 x3 := by
  have hs := sum_ones Finset.univ fun p : S129x128x9.Idx => (val_main_v14 (F := Ideal) x2 x3 : S129x128x9.Idx → BitVec 1) p
  rw [sum_idx3] at hs
  simp only [mask_at] at hs
  have hc : (Finset.univ.filter fun p : S129x128x9.Idx =>
      (val_main_v14 (F := Ideal) x2 x3 : S129x128x9.Idx → BitVec 1) p = 1#1).card < 2 ^ 31 := by
    refine lt_of_le_of_lt (Finset.card_filter_le _ _) ?_
    rw [Finset.card_univ, ← Finset.card_univ, Finset.card_eq_sum_ones, sum_idx3]
    simp
  have hi := StableHlo.Predicate.toInt_ofNat_small _ hc
  show ((((val_main_v27 (F := Ideal) x2 x3 : S_.Idx → BitVec 32) ix0).toInt : ℝ) : EReal) = _
  rw [tally, hi]
  refine Eq.trans ?_ hs.symm
  simp

/-- The reference's one result is the mean loss. -/
theorem result (h : ∀ i j k, (cls x0 x3 x5 i j k).toNat < 256)
    (hM : ∀ i j k, ∃ r : ℝ, rowMax (fun v => x1 (ix4 i j k v)) = (r : EReal)) :
    (val_main_v32 (F := Ideal) x0 x1 x2 x3 x5 : S1x1.Idx → EReal) = fun _ => mean x0 x1 x2 x3 (x5 ix0) := by
  funext p
  have e : (val_main_v31 (F := Ideal) x0 x1 x2 x3 x5 : S_.Idx → EReal) ix0 = mean x0 x1 x2 x3 (x5 ix0) := by
    rw [val_main_v31_apply, total x0 x1 x2 x3 x5 h hM, count]
    rfl
  rw [← e]
  unfold val_main_v32
  generalize val_main_v31 (F := Ideal) x0 x1 x2 x3 x5 = y
  exact congrArg y (Subsingleton.elim _ _)

end Cert.ReferenceIdeal.RefValue

end
-- ==== Proof.Precondition.lean ====
/-
  What the precondition says, read from its printed predicate: every label and the end token lie in [0, 256), and every
  row of logits has a real maximum.
-/
module

public import proofs.«01_k».proof.Pre_classes_in_range
public import proofs.«01_k».proof.Proof.RowMath

@[expose] public section

noncomputable section

namespace Cert.Pre_classes_in_range

open Idealize.ShloMosaic Cert.RowMath Cert.ReferenceIdeal.RefCell Cert.Spec

/-- The predicate's shape relations hold. -/
instance facts : Facts where
  reducesTo_S129x128x9x256_S129x128x9_d3 := by decide
  h_S_ := by decide
  bcast_S_S129x128x8 := by decide
  reducesTo_S129x128x8_S_d0_1_2 := by decide
  bcast_S_S129x128x9 := by decide
  reducesTo_S129x128x9_S_d0_1_2 := by decide

/-- A word that is signed-at-least 0 and signed-below 256 is below 256 as a natural number. -/
theorem in_range (a : BitVec 32) (h0 : IntOp.cmpi .sge a 0#32 = 1#1) (h1 : IntOp.cmpi .slt a 256#32 = 1#1) : a.toNat < 256 := by
  have z := IntOp.cmpi_sge.1 h0
  have w := IntOp.cmpi_slt.1 h1
  have e0 : (0#32 : BitVec 32).toInt = 0 := by decide
  have e1 : (256#32 : BitVec 32).toInt = 256 := by decide
  rw [e0, BitVec.toInt_eq_toNat_cond] at z
  rw [e1, BitVec.toInt_eq_toNat_cond] at w
  have b := a.isLt
  split at z <;> split at w <;> omega

/-- An extended real whose absolute value is below plus infinity is a real number. -/
theorem real_of_abs (x : EReal) (h : Ideal.cmp .olt (max x (-x)) (Ideal.ofBits .f32 0x7F800000#32) = 1#1) :
    ∃ r : ℝ, x = (r : EReal) := by
  rw [ofBits_top] at h
  induction x with
  | bot => simp [Ideal.cmp] at h
  | top => simp [Ideal.cmp] at h
  | coe r => exact ⟨r, rfl⟩

variable (x0 : IVec S129x128x8 32) (x1 : FVec Ideal S129x128x9x256 .f32) (x2 : IVec S129 32) (x3 : IVec S129x128 32)
  (x4 x5 : IVec S_ 32)

/-- The predicate's row maximum is the maximum of the row. -/
theorem max_at (i : Fin 129) (j : Fin 128) (k : Fin 9) :
    (Host.reduce (FloatOps.maximumf (F := Ideal) (φ := .f32)) x1 (constant (F := Ideal) S_ .f32 0xFF800000#32)
      facts.reducesTo_S129x128x9x256_S129x128x9_d3 facts.h_S_) (ix3 i j k) = rowMax fun v => x1 (ix4 i j k v) := by
  pointwise [rowMax]

/-- A compare of absolute values with plus infinity that is 1 at an index says the number there is real. -/
theorem real_at (M : FVec Ideal S129x128x9 .f32) (i : Fin 129) (j : Fin 128) (k : Fin 9)
    (q : cmpf .olt (Host.absf M) (broadcastInDim S129x128x9 ![] facts.bcast_S_S129x128x9
      (constant (F := Ideal) S_ .f32 0x7F800000#32)) (ix3 i j k) = 1#1) : ∃ r : ℝ, M (ix3 i j k) = (r : EReal) := by
  refine real_of_abs _ ?_
  have e : broadcastInDim S129x128x9 ![] facts.bcast_S_S129x128x9 (constant (F := Ideal) S_ .f32 0x7F800000#32) (ix3 i j k)
      = Ideal.ofBits .f32 0x7F800000#32 := by pointwise
  rw [← e]
  exact q

/-- The precondition read: the labels and the end token are below 256, and the row maxima are real numbers. -/
theorem reads (h : fn (F := Ideal) x0 x1 x2 x3 x4 x5 ix0 = 1#1) :
    (∀ p, (x0 p).toNat < 256) ∧ (x5 ix0).toNat < 256
      ∧ ∀ i j k, ∃ r : ℝ, rowMax (fun v => x1 (ix4 i j k v)) = (r : EReal) := by
  obtain ⟨hab, hm⟩ := IntOp.andi_eq_one.1 h
  obtain ⟨ha, he1⟩ := IntOp.andi_eq_one.1 hab
  obtain ⟨hl, he0⟩ := IntOp.andi_eq_one.1 ha
  refine ⟨fun p => ?_, in_range _ he0 he1, fun i j k => ?_⟩
  · obtain ⟨a, b⟩ := IntOp.andi_eq_one.1 (Host.reduce_andi_all _ _ _ _ _ hl p)
    exact in_range _ a b
  · have q := Host.reduce_andi_all _ _ _ _ _ hm (ix3 i j k)
    rw [← max_at]
    exact real_at _ i j k q

/-- Under the precondition every cell's class is below 256. -/
theorem class_lt (h0 : ∀ p, (x0 p).toNat < 256) (h5 : (x5 ix0).toNat < 256) (i : Fin 129) (j : Fin 128) (k : Fin 9) :
    (cls x0 x3 x5 i j k).toNat < 256 := by
  have hp : (padded x0 i j k).toNat < 256 := by
    unfold padded
    split
    · exact h0 _
    · decide
  unfold cls target
  generalize IntOp.cmpi .eq (x3 (ix2 i j)) (BitVec.ofNat 32 k.val) = b
  rcases BitVec.eq_zero_or_eq_one b with rfl | rfl
  · rw [select_zero]; exact hp
  · rw [select_one]; exact h5

end Cert.Pre_classes_in_range

end
-- ==== Proof.lean ====
/-
  The claim: the kernel, its idealization and the reference run and leave their arguments; the idealization is the kernel's
  own text; and under the precondition the idealized kernel and the reference end with equal results, both the mean loss
  `Spec.mean` (Proof/KernelValue.lean and Proof/RefValue.lean; Proof/Precondition.lean reads the precondition).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.KernelValue
public import proofs.«01_k».proof.Proof.RefValue
public import proofs.«01_k».proof.Proof.Precondition
public import Idealize.ShloMosaic.Adequacy
public import Idealize.ShloMosaic.Init

@[expose] public section

noncomputable section

namespace Cert.Proof

open Idealize.ShloMosaic Idealize.SL.Sem

/-- From memories agreeing on the arguments, whose labels and end token are classes and whose rows of logits have real
    maxima, the idealized kernel and the reference both leave the mean loss in their one result. -/
theorem algebraic :
    algebraic_KernelIdeal_ReferenceIdeal_pre_classes_in_range (hKernelIdeal := Cert.KernelIdeal.Gen.facts)
      (hReferenceIdeal := Cert.ReferenceIdeal.Gen.facts) (hPre_classes_in_range := Cert.Pre_classes_in_range.facts) := by
  intro m g m' g' hpre hargs
  refine ⟨fun c _ => Cert.Spec.mean (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg5) ix0), ?_, ?_⟩
  · exact (θ_run _ _ _).mono (fun r h c => ⟨(h c).1.trans (Cert.KernelIdeal.KernelValue.final m c), (h c).2⟩)
      (Cert.KernelIdeal.Value.run_blocks m g)
  · refine (θ_run _ _ _).mono (fun r h c => ⟨?_, (h c).2⟩) (Cert.ReferenceIdeal.Value.run m' g')
    obtain ⟨a0, a1, a2, a3, _, a5⟩ := hargs c
    obtain ⟨h0, h5, hM⟩ := Cert.Pre_classes_in_range.reads _ _ _ _ _ _ (congrFun (hpre c) ix0)
    rw [(h c).1, Cert.ReferenceIdeal.Read.val_main_v32_eq, a0, a1, a2, a3, a5]
    exact Cert.ReferenceIdeal.RefValue.result _ _ _ _ _ (fun i j k => Cert.Pre_classes_in_range.class_lt _ _ _ h0 h5 i j k) hM

/-- The reference runs, leaves its arguments, and ends with no semaphore raised: its program declares none. -/
theorem frame_reference : quiescent_ReferenceIdeal (hReferenceIdeal := Cert.ReferenceIdeal.Gen.facts) := fun m g _ =>
  (θ_run Cert.ReferenceIdeal.defs _ _).mono (fun r h => And.intro (fun c => (h c).2) (sem_eq_zero_of_no_sems (by decide) r.2))
    (Cert.ReferenceIdeal.Value.run (F := Ideal) m g)

/-- The kernel and the reference run and leave their arguments, the idealized kernel is the kernel's own text, and under
    the precondition the idealized kernel and the reference end with equal results. -/
theorem claim : Cert.Claim :=
  ⟨Cert.Kernel.Gen.facts, Cert.KernelIdeal.Gen.facts, Cert.ReferenceIdeal.Gen.facts, Cert.Pre_classes_in_range.facts,
    fun m g _ => Cert.Kernel.Gen.frame m g,
    fun m g _ => Cert.KernelIdeal.Gen.frame m g,
    fun m g _ => Cert.KernelIdeal.Gen.frame m g,
    frame_reference,
    fun m g _ => frame_reference m g trivial,
    trivial, algebraic⟩

end Cert.Proof

end
